-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S10000x10000 : Shape := ⟨2, ![10000, 10000]⟩
abbrev S10000x128 : Shape := ⟨2, ![10000, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x10000x10000, .f32⟩
  | .hbm, ⟨1, _⟩ => ⟨S1x10000x128, .f32⟩
  | .hbm, ⟨2, _⟩ => ⟨S128x128, .f32⟩
  | .hbm, ⟨3, _⟩ => ⟨S128, .f32⟩
  | .hbm, ⟨4, _⟩ => ⟨S10000x10000, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S1x10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S1x10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S10000x10000 : Shape := ⟨2, ![10000, 10000]⟩
abbrev S10000x128 : Shape := ⟨2, ![10000, 128]⟩
abbrev S1x1x128 : Shape := ⟨3, ![1, 1, 128]⟩

abbrev nBuf : Space → Nat
  | .hbm => 12
  | .vmem => 0
  | .smem => 0
  | _ => 0

abbrev bufTy : (tb : Table) → Fin (tcTables nBuf tb) → BufTy
  | .hbm, ⟨0, _⟩ => ⟨S1x10000x10000, .f32⟩
  | .hbm, ⟨1, _⟩ => ⟨S1x10000x128, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S10000x10000, .f32⟩
  | .hbm, ⟨6, _⟩ => ⟨S10000x128, .f32⟩
  | .hbm, ⟨7, _⟩ => ⟨S10000x128, .f32⟩
  | .hbm, ⟨8, _⟩ => ⟨S1x10000x128, .f32⟩
  | .hbm, ⟨9, _⟩ => ⟨S1x1x128, .f32⟩
  | .hbm, ⟨10, _⟩ => ⟨S1x10000x128, .f32⟩
  | .hbm, ⟨11, _⟩ => ⟨S1x10000x128, .f32⟩
  | _, _ => ⟨S1x10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Body.lean ====
/- What one run of the kernel's body leaves behind, in terms of the blocks it is given: at the first grid point the
   scratch buffer is filled with the product of the features and the weights, and at every grid point the output block
   is the adjacency block times the scratch, plus the bias. Stated for any reading of the floats. -/
module

public import proofs.«01_k».proof.Proof.Gen.KernelIdeal.Frame
public import Idealize.ShloMosaic.Lib.Pipeline.Value
public import Idealize.ShloMosaic.Lib.Tactic

@[expose] public section

noncomputable section

namespace Cert.GraphConv

open Cert.KernelIdeal Cert.KernelIdeal.Gen Idealize.ShloMosaic Idealize.ShloMosaic.TcCoe Idealize.SL.Sem

variable {F : FTy → Type} [FloatOps F]

/-- The offsets of every load and store of the body are zero on both axes. -/
theorem offsets_zero : (![0, 0] : Fin 2 → Nat) = fun _ => 0 := funext fun a => by fin_cases a <;> rfl

/-- The body at the first point leaves the product of the features `x1` and the weights `x2` in the scratch buffer. -/
theorem scratch_first (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole)
    (hc : cond0_0 i) (x0 : Vec F S400x10000 .f32) (x1 : Vec F S10000x128 .f32)
    (x2 : Vec F S128x128 .f32) (x3 : Vec F S1x128 .f32) :
    sout0_A_0 c i a1 h1 a2 h2 a3 h3 a4 h4 a5 h5 a6 h6 hc x0 x1 x2 x3 = k0_pay1 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero offsets_zero]
  simp only [View.readAt_eq_ld, h2.read_unread, h3.read_unread, View.ld_unit_zero (S := S10000x128) offsets_zero,
    View.ld_unit_zero (S := S128x128) offsets_zero]

/-- The body at the first point leaves in the output block the adjacency block `x0` times the product it has just put in
    the scratch buffer, plus the bias `x3`. -/
theorem out_first (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole)
    (hc : cond0_0 i) (x0 : Vec F S400x10000 .f32) (x1 : Vec F S10000x128 .f32)
    (x2 : Vec F S128x128 .f32) (x3 : Vec F S1x128 .f32) :
    out0_A_4 c i a1 h1 a2 h2 a3 h3 a4 h4 a5 h5 a6 h6 hc x0 x1 x2 x3 = k0_pay2 x0 (k0_pay1 x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero offsets_zero, View.readCov_unit_zero (S := S10000x128) _ offsets_zero]
  simp only [View.readAt_eq_ld, h1.read_unread, h2.read_unread, h3.read_unread, h4.read_unread,
    View.ld_unit_zero (S := S10000x128) offsets_zero, View.ld_unit_zero (S := S128x128) offsets_zero,
    View.ld_unit_zero (S := S400x10000) offsets_zero, View.ld_unit_zero (S := S1x128) offsets_zero]

/-- The body at a later point leaves in the output block the adjacency block `x0` times what the scratch buffer holds
    (`xs`), plus the bias `x3`. -/
theorem out_later (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole)
    (hc : ¬cond0_0 i) (x0 : Vec F S400x10000 .f32) (x1 : Vec F S10000x128 .f32)
    (x2 : Vec F S128x128 .f32) (x3 : Vec F S1x128 .f32)
    (xs : Vec F S10000x128 .bf16) :
    out0_B_4 c i a1 h1 a2 h2 a3 h3 a4 h4 a5 h5 a6 h6 hc x0 x1 x2 x3 xs = k0_pay2 x0 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero offsets_zero]
  simp only [View.readAt_eq_ld, h1.read_unread, h4.read_unread, h6.read_unread,
    View.ld_unit_zero (S := S10000x128) offsets_zero,
    View.ld_unit_zero (S := S400x10000) offsets_zero, View.ld_unit_zero (S := S1x128) offsets_zero]

end Cert.GraphConv

end
-- ==== Proof.Grid.lean ====
/- What the kernel's grid leaves, for any reading of the floats: the blocks of the features, the weights and the bias are
   the whole arrays at every point, so the scratch buffer holds one and the same product throughout, and the output
   block of each point is the adjacency rows of that point times this product, plus the bias. -/
module

public import proofs.«01_k».proof.Proof.Body

@[expose] public section

noncomputable section

namespace Cert.GraphConv

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The adjacency as the grid finds it: the argument without its unit axis. -/
abbrev adjArr (c : Dev nD) : Vec F S10000x10000 .f32 := V m c main_v0
/-- The features as the grid finds them: the argument without its unit axis. -/
abbrev featArr (c : Dev nD) : Vec F S10000x128 .f32 := V m c main_v1
/-- The weights as the grid finds them: the argument. -/
abbrev weightArr (c : Dev nD) : Vec F S128x128 .f32 := V m c main_arg2
/-- The bias as the grid finds it: the argument as a row. -/
abbrev biasArr (c : Dev nD) : Vec F S1x128 .f32 := V m c main_v2

/-- The adjacency array is the argument reshaped. -/
theorem adjArr_eq (c : Dev nD) :
    adjArr m c = shapeCast S10000x10000 (m ((c : Thread nD τ).loc main_arg0)) shapeCasts_S1x10000x10000_S10000x10000 := by
  show StableHlo.after (List.flatten [hostOps0]) (fun b => m (c, b)) (Proc.devRef .tc main_v0) = _
  simp only [List.flatten_cons, List.flatten_nil, List.append_nil]
  after_results <;> rfl

/-- The feature array is the argument reshaped. -/
theorem featArr_eq (c : Dev nD) :
    featArr m c = shapeCast S10000x128 (m ((c : Thread nD τ).loc main_arg1)) shapeCasts_S1x10000x128_S10000x128 := by
  show StableHlo.after (List.flatten [hostOps0]) (fun b => m (c, b)) (Proc.devRef .tc main_v1) = _
  simp only [List.flatten_cons, List.flatten_nil, List.append_nil]
  after_results <;> rfl

/-- The bias row is the argument reshaped. -/
theorem biasArr_eq (c : Dev nD) :
    biasArr m c = shapeCast S1x128 (m ((c : Thread nD τ).loc main_arg3)) shapeCasts_S128_S1x128 := by
  show StableHlo.after (List.flatten [hostOps0]) (fun b => m (c, b)) (Proc.devRef .tc main_v2) = _
  simp only [List.flatten_cons, List.flatten_nil, List.append_nil]
  after_results <;> rfl

/-- The block indices of the features, the weights and the bias are zero at every point. -/
theorem index_whole : ∀ t : Fin cfg0.N, (∀ a, win0_1.index t a = 0) ∧ (∀ a, win0_2.index t a = 0) ∧ (∀ a, win0_3.index t a = 0) :=
  (by decide +kernel : ∀ t : Fin grid0.N, (∀ a, win0_1.index t a = 0) ∧ (∀ a, win0_2.index t a = 0) ∧ (∀ a, win0_3.index t a = 0))

/-- The feature block is the whole array at every point. -/
theorem feat_block (c : Dev nD) (t : Fin cfg0.N) : iblk m c 1 t = featArr m c := by
  have hz : (fun a => win0_1.index t a * main_v1.ty.shape.size a) = fun _ => 0 :=
    funext fun a => by rw [(index_whole t).1 a, Nat.zero_mul]
  exact Memref.read_access_unit_zero (Elt F) main_v1 hz (fun a => by rw [congrFun hz a, Nat.zero_add]) (featArr m c)

/-- The weight block is the whole array at every point. -/
theorem weight_block (c : Dev nD) (t : Fin cfg0.N) : iblk m c 2 t = weightArr m c := by
  have hz : (fun a => win0_2.index t a * main_arg2.ty.shape.size a) = fun _ => 0 :=
    funext fun a => by rw [(index_whole t).2.1 a, Nat.zero_mul]
  exact Memref.read_access_unit_zero (Elt F) main_arg2 hz (fun a => by rw [congrFun hz a, Nat.zero_add]) (weightArr m c)

/-- The bias block is the whole row at every point. -/
theorem bias_block (c : Dev nD) (t : Fin cfg0.N) : iblk m c 3 t = biasArr m c := by
  have hz : (fun a => win0_3.index t a * main_v2.ty.shape.size a) = fun _ => 0 :=
    funext fun a => by rw [(index_whole t).2.2 a, Nat.zero_mul]
  exact Memref.read_access_unit_zero (Elt F) main_v2 hz (fun a => by rw [congrFun hz a, Nat.zero_add]) (biasArr m c)

/-- After every point the scratch buffer holds the product of the features and the weights: the first point puts it
    there and no later point writes it. -/
theorem scratch_eq (c : Dev nD) : ∀ (n : ℕ) (h : n < cfg0.N), (outsAt0 m c n h).2 = k0_pay1 (featArr m c) (weightArr m c)
  | 0, h => by
    rw [outsAt0_A m c ⟨0, h⟩ rfl]
    dsimp only
    rw [scratch_first, feat_block, weight_block]
  | n + 1, h => by
    have hN : cfg0.N = 25 := N_0
    have hB : ¬(⟨n + 1, h⟩ : Fin cfg0.N).val % 25 = 0 := by dsimp only; omega
    rw [outsAt0_B m c ⟨n + 1, h⟩ hB]
    exact scratch_eq c n _

/-- After every point the output block is the point's adjacency rows times the product, plus the bias. -/
theorem out_eq (c : Dev nD) (t : Fin cfg0.N) :
    (outsAt0 m c t.val t.isLt).1 = k0_pay2 (iblk m c 0 t) (k0_pay1 (featArr m c) (weightArr m c)) (biasArr m c) := by
  by_cases h0 : t.val % 25 = 0
  · rw [outsAt0_A m c t h0]
    dsimp only
    rw [out_first, feat_block, weight_block, bias_block]
  · rw [outsAt0_B m c t h0]
    dsimp only
    rw [out_later, scratch_eq, bias_block]

end Cert.GraphConv

end
-- ==== Proof.Spec.lean ====
/- The graph convolution as a formula on the argument arrays, and the reference's result read as that formula. -/
module

public import proofs.«01_k».proof.Proof.Gen.ReferenceIdeal.Run
public import Idealize.ShloMosaic.Lib.Pointwise

@[expose] public section

set_option maxRecDepth 16384

noncomputable section

namespace Cert.GraphConv

open Cert.ReferenceIdeal Cert.ReferenceIdeal.Gen Idealize.ShloMosaic Idealize.ShloMosaic.TcCoe Idealize.SL.Sem

/-- The graph convolution: node `r`, channel `j` gets the sum over the nodes `k` of the adjacency entry `(r, k)` times the
    entry `(k, j)` of features times weights, plus the bias of channel `j`. -/
def conv (adj : FVec Ideal S1x10000x10000 .f32) (feat : FVec Ideal S1x10000x128 .f32) (weight : FVec Ideal S128x128 .f32)
    (bias : FVec Ideal S128 .f32) (r : Fin 10000) (j : Fin 128) : EReal :=
  (∑ k : Fin 10000, adj (ix3 0 r k) * ∑ l : Fin 128, feat (ix3 0 k l) * weight (ix2 l j)) + bias (ix1 j)

/-- The graph convolution as an array of the result's shape. -/
def convArray (adj : FVec Ideal S1x10000x10000 .f32) (feat : FVec Ideal S1x10000x128 .f32) (weight : FVec Ideal S128x128 .f32)
    (bias : FVec Ideal S128 .f32) : FVec Ideal S1x10000x128 .f32 :=
  fun i => conv adj feat weight bias (i 1) (i 2)

/-- The reference's composed operations compute the graph convolution. -/
theorem reference_eq (adj : FVec Ideal S1x10000x10000 .f32) (feat : FVec Ideal S1x10000x128 .f32)
    (weight : FVec Ideal S128x128 .f32) (bias : FVec Ideal S128 .f32) :
    (addf (broadcastInDim S1x10000x128 ![1, 2] bcast_S10000x128_S1x10000x128_1_2
        (Host.dotGeneral dot_S10000x10000_S10000x128_S10000x128_1_0_0_1_n_n none
          (shapeCast _ adj shapeCasts_S1x10000x10000_S10000x10000)
          (shapeCast _ (Host.dotGeneral dot_S1x10000x128_S128x128_S1x10000x128_2_0_01_1_n_n none feat weight)
            shapeCasts_S1x10000x128_S10000x128)))
      (broadcastInDim S1x10000x128 ![0, 1, 2] bcast_S1x1x128_S1x10000x128_0_1_2
        (broadcastInDim S1x1x128 ![2] bcast_S128_S1x1x128_2 bias)) : FVec Ideal S1x10000x128 .f32)
      = convArray adj feat weight bias := by
  funext i
  unfold convArray conv
  pointwise

end Cert.GraphConv

end
-- ==== Proof.Result.lean ====
/- The kernel's result over the extended reals: the array the grid leaves is the graph convolution row by row, and the
   reshape after the grid turns it into the result. -/
module

public import proofs.«01_k».proof.Proof.Grid
public import proofs.«01_k».proof.Proof.Spec
public import Idealize.ShloMosaic.Lib.Pointwise

@[expose] public section

set_option maxRecDepth 16384

noncomputable section

namespace Cert.GraphConv

open Cert.KernelIdeal Cert.KernelIdeal.Gen Idealize.ShloMosaic Idealize.ShloMosaic.TcCoe Idealize.SL.Sem

/-- The product of features and weights, entry by entry; the change of format is no change here. -/
theorem product_apply (x : FVec Ideal S10000x128 .f32) (w : FVec Ideal S128x128 .f32) (k : Fin 10000) (j : Fin 128) :
    k0_pay1 (F := Ideal) x w (ix2 k j) = ∑ l : Fin 128, x (ix2 k l) * w (ix2 l j) := by
  unfold k0_pay1
  simp only [shapeCast_self]
  pointwise

/-- An output block, entry by entry: the adjacency block's row times the scratch buffer's column, plus the bias. -/
theorem block_apply (a : FVec Ideal S400x10000 .f32) (p : FVec Ideal S10000x128 .bf16) (b : FVec Ideal S1x128 .f32)
    (r : Fin 400) (j : Fin 128) :
    k0_pay2 (F := Ideal) a p b (ix2 r j) = (∑ k : Fin 10000, a (ix2 r k) * p (ix2 k j)) + b (ix2 0 j) := by
  unfold k0_pay2
  simp only [shapeCast_self]
  pointwise

/-- The reshape after the grid puts row `r` of its operand at row `r` of the result. -/
theorem reshape_apply (f : FVec Ideal S10000x128 .f32) (a : Fin 1) (r : Fin 10000) (j : Fin 128) :
    shapeCast S1x10000x128 f shapeCasts_S10000x128_S1x10000x128 (ix3 a r j) = f (ix2 r j) := by
  pointwise

/-- Dropping the adjacency's unit axis keeps every entry. -/
theorem squeeze_adj_apply (f : FVec Ideal S1x10000x10000 .f32) (r k : Fin 10000) :
    shapeCast S10000x10000 f shapeCasts_S1x10000x10000_S10000x10000 (ix2 r k) = f (ix3 0 r k) := by
  pointwise

/-- Dropping the features' unit axis keeps every entry. -/
theorem squeeze_feat_apply (f : FVec Ideal S1x10000x128 .f32) (k : Fin 10000) (l : Fin 128) :
    shapeCast S10000x128 f shapeCasts_S1x10000x128_S10000x128 (ix2 k l) = f (ix3 0 k l) := by
  pointwise

/-- Writing the bias as a row keeps every entry. -/
theorem bias_row_apply (f : FVec Ideal S128 .f32) (j : Fin 128) :
    shapeCast S1x128 f shapeCasts_S128_S1x128 (ix2 0 j) = f (ix1 j) := by
  pointwise

variable (m : (ℓ : Loc nD τ sig) → Buf (Elt Ideal) ℓ) (ρ : Dev nD → PrngReg)

/-- The adjacency array, entry by entry. -/
theorem adjArr_apply (c : Dev nD) (r k : Fin 10000) :
    adjArr m c (ix2 r k) = (m ((c : Thread nD τ).loc main_arg0) : FVec Ideal S1x10000x10000 .f32) (ix3 0 r k) := by
  rw [adjArr_eq]
  exact squeeze_adj_apply _ r k

/-- The feature array, entry by entry. -/
theorem featArr_apply (c : Dev nD) (k : Fin 10000) (l : Fin 128) :
    featArr m c (ix2 k l) = (m ((c : Thread nD τ).loc main_arg1) : FVec Ideal S1x10000x128 .f32) (ix3 0 k l) := by
  rw [featArr_eq]
  exact squeeze_feat_apply _ k l

/-- The bias row, entry by entry. -/
theorem biasArr_apply (c : Dev nD) (j : Fin 128) :
    biasArr m c (ix2 0 j) = (m ((c : Thread nD τ).loc main_arg3) : FVec Ideal S128 .f32) (ix1 j) := by
  rw [biasArr_eq]
  exact bias_row_apply _ j

/-- The graph convolution of the launch contents, as the array the grid writes. -/
def flatConv (c : Dev nD) : Buf (Elt Ideal) ((c : Thread nD τ).loc main_v3) := fun (i : S10000x128.Idx) =>
  conv (m ((c : Thread nD τ).loc main_arg0)) (m ((c : Thread nD τ).loc main_arg1)) (m ((c : Thread nD τ).loc main_arg2))
    (m ((c : Thread nD τ).loc main_arg3)) (i 0) (i 1)

/-- The block indices of the adjacency and of the output at point `t` are `(t, 0)`. -/
theorem index_rows : ∀ t : Fin cfg0.N, win0_0.index t (0 : Fin 2) = t.val ∧ win0_0.index t (1 : Fin 2) = 0
    ∧ win0_4.index t (0 : Fin 2) = t.val ∧ win0_4.index t (1 : Fin 2) = 0 :=
  (by decide +kernel : ∀ t : Fin grid0.N, win0_0.index t (0 : Fin 2) = t.val ∧ win0_0.index t (1 : Fin 2) = 0
    ∧ win0_4.index t (0 : Fin 2) = t.val ∧ win0_4.index t (1 : Fin 2) = 0)

/-- Row `r` of the adjacency block at point `t` is row `400 t + r` of the adjacency array. -/
theorem adj_block (c : Dev nD) (t : Fin cfg0.N) (r : Fin 400) (k : Fin 10000) (h : t.val * 400 + r.val < 10000) :
    (iblk m c 0 t : FVec Ideal S400x10000 .f32) (ix2 r k) = adjArr m c (ix2 ⟨t.val * 400 + r.val, h⟩ k) := by
  obtain ⟨e0, e1, -, -⟩ := index_rows t
  unfold iblk
  rw [View.read_apply]
  show V m c main_v0 _ = _
  refine congrArg (V m c main_v0) (funext fun a => Fin.ext ?_)
  match a with
  | ⟨0, _⟩ =>
    show win0_0.index t (0 : Fin 2) * 400 + 1 * r.val = t.val * 400 + r.val
    rw [e0, Nat.one_mul]
  | ⟨1, _⟩ =>
    show win0_0.index t (1 : Fin 2) * 10000 + 1 * k.val = k.val
    rw [e1]; omega

/-- What a point writes back is its rows of the graph convolution. -/
theorem flushed_eq (c : Dev nD) (t : Fin cfg0.N) :
    (dats m 0 c).flushed 4 t = ((cfg0.win 4).blk t).view.read (Elt Ideal) (flatConv m c) := by
  show (cfg0.win 4).cut (grid0.coords t) ((dats m 0 c).after 4 t) = _
  rw [after0_4, out_eq]
  obtain ⟨-, -, e0, e1⟩ := index_rows t
  have hN : t.val < 25 := lt_of_lt_of_eq t.isLt (show cfg0.N = 25 from N_0)
  funext (y : S400x128.Idx)
  obtain ⟨r, j, rfl⟩ : ∃ (r : Fin 400) (j : Fin 128), y = ix2 r j := ⟨y 0, y 1, eq_ix2 y⟩
  have hr : t.val * 400 + r.val < 10000 := by have := r.isLt; omega
  rw [View.read_apply]
  have he : (((cfg0.win 4).blk t).view.emb (ix2 r j) : S10000x128.Idx) = ix2 ⟨t.val * 400 + r.val, hr⟩ j := by
    funext a
    apply Fin.ext
    match a with
    | ⟨0, _⟩ =>
      show win0_4.index t (0 : Fin 2) * 400 + 1 * r.val = t.val * 400 + r.val
      rw [e0, Nat.one_mul]
    | ⟨1, _⟩ =>
      show win0_4.index t (1 : Fin 2) * 128 + 1 * j.val = j.val
      rw [e1]; omega
  have hx : (cfg0.win 4).cut (grid0.coords t) (k0_pay2 (F := Ideal) (iblk m c 0 t) (k0_pay1 (featArr m c) (weightArr m c)) (biasArr m c)) (ix2 r j)
      = k0_pay2 (F := Ideal) (iblk m c 0 t) (k0_pay1 (featArr m c) (weightArr m c)) (biasArr m c) (ix2 r j) := rfl
  refine hx.trans ?_
  refine Eq.trans ?_ (congrArg (flatConv m c) he).symm
  rw [block_apply, biasArr_apply]
  refine congrArg (· + _) (Finset.sum_congr rfl fun k _ => ?_)
  rw [adj_block m c t r k hr, adjArr_apply, product_apply]
  refine congrArg (fun x : EReal => (_ : EReal) * x) (Finset.sum_congr rfl fun l _ => ?_)
  rw [featArr_apply]
  exact congrArg (fun x : EReal => (_ : EReal) * x) (congrFun (V_main_arg2 m c) _)

/-- Every row lies in the block of some point: the array the grid leaves is the graph convolution. -/
theorem array_eq (c : Dev nD) : (dats m 0 c).arrAt 4 cfg0.N = flatConv m c :=
  (dats m 0 c).arrAt_eq_of_cover 4 (flatConv m c) (fun t _ => flushed_eq m c t) fun i => by
    have h0 : (i 0).val < 10000 := (i 0).isLt
    have h1 : (i 1).val < 128 := (i 1).isLt
    have hN : cfg0.N = 25 := N_0
    have ht : (i 0).val / 400 < cfg0.N := by omega
    obtain ⟨-, -, e0, e1⟩ := index_rows ⟨(i 0).val / 400, ht⟩
    refine ⟨⟨(i 0).val / 400, ht⟩, flush0_4 _, ?_⟩
    show i ∈ ((View.whole main_v3).slice (win0_4.rect ⟨(i 0).val / 400, ht⟩)).set
    rw [View.set_slice_whole, Rect.mem_set_unit]
    intro a
    match a with
    | ⟨0, _⟩ =>
      show win0_4.index ⟨(i 0).val / 400, ht⟩ (0 : Fin 2) * 400 ≤ (i 0).val
        ∧ (i 0).val < win0_4.index ⟨(i 0).val / 400, ht⟩ (0 : Fin 2) * 400 + 400
      rw [e0]; dsimp only; omega
    | ⟨1, _⟩ =>
      show win0_4.index ⟨(i 0).val / 400, ht⟩ (1 : Fin 2) * 128 ≤ (i 1).val
        ∧ (i 1).val < win0_4.index ⟨(i 0).val / 400, ht⟩ (1 : Fin 2) * 128 + 128
      rw [e1]; omega

/-- The result buffer after the reshape: the graph convolution in the result's shape. -/
theorem tail_eq (c : Dev nD) :
    Pipeline.afterTail₀ cfgs (dats m) 0 (V0 m) [hostOps1] c main_v4
      = convArray (m ((c : Thread nD τ).loc main_arg0)) (m ((c : Thread nD τ).loc main_arg1))
          (m ((c : Thread nD τ).loc main_arg2)) (m ((c : Thread nD τ).loc main_arg3)) := by
  unfold Pipeline.afterTail₀
  simp only [List.flatten_cons, List.flatten_nil, List.append_nil]
  after_results
  have hw : Pipeline.withArrays (cfgs 0).spec c (V0 m c) (fun w => (dats m 0 c).arrAt w (cfgs 0).N) (Proc.devRef .tc main_v3)
      = flatConv m c :=
    (Pipeline.withArrays_arr spec0 launch0.win.arr_inj c (V0 m c) (fun w => (dats m 0 c).arrAt w cfg0.N) 4).trans (array_eq m c)
  rw [hw]
  funext (i : S1x10000x128.Idx)
  obtain ⟨a, r, j, rfl⟩ : ∃ (a : Fin 1) (r : Fin 10000) (j : Fin 128), i = ix3 a r j := ⟨i 0, i 1, i 2, eq_ix3 i⟩
  exact reshape_apply (flatConv m c) a r j

/-- The kernel's run over the extended reals: its result is the graph convolution of the launch contents, and the
    arguments end as they began. -/
theorem kernel_run : θ_run defs (onTc (τ := τ) (main (F := Ideal))) ⟨m, fun _ => 0, ρ⟩ fun r => ∀ c : Dev nD,
      r.2.mem ((c.tc : Thread nD τ).loc main_v4)
          = convArray (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).2 main_v4 (Pipeline.mem_restRefs_of main_v4 (by decide) (by decide))).trans (tail_eq m c), h.2 c⟩)
    (θ_run_and (run_main m ρ) (unchanged m ρ))

end Cert.GraphConv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to an end with its arguments unchanged; it has no counters, so they are all zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- From equal arguments the kernel and the reference both end with the graph convolution of those arguments. -/
theorem same_result : Cert.algebraic_KernelIdeal_ReferenceIdeal (hKernelIdeal := Cert.KernelIdeal.Gen.facts)
    (hReferenceIdeal := Cert.ReferenceIdeal.Gen.facts) := fun m g m' g' _ hargs =>
  ⟨_, Cert.GraphConv.kernel_run m g,
    (θ_run Cert.ReferenceIdeal.defs _ _).mono
      (fun r h c => ⟨by
        obtain ⟨e0, e1, e2, e3⟩ := hargs c
        refine (h c).1.trans ((Cert.GraphConv.reference_eq _ _ _ _).trans ?_)
        rw [e0, e1, e2, e3], (h c).2⟩)
      (Cert.ReferenceIdeal.Value.run m' g')⟩

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, same_result⟩

end Cert.Proof

end
